-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S1024x1x18944 : Shape := ⟨3, ![1024, 1, 18944]⟩
abbrev S9472x3584 : Shape := ⟨2, ![9472, 3584]⟩
abbrev S592x3584 : Shape := ⟨2, ![592, 3584]⟩
abbrev S_ : Shape := ⟨0, ![]⟩

class Facts : Prop where
  natLt_8_32 : 8 < 32
  bcast_S_S592x3584 : S_.BroadcastsInDim S592x3584 (![] : Fin 0 → Fin S592x3584.rank)

variable [Facts]

def fn {F : FTy → Type} [FloatOps F] (main_arg0 : FVec F S1024x1x18944 .bf16) (main_arg1 : IVec S9472x3584 8) (main_arg2 : IVec S592x3584 8) : IVec S592x3584 1 :=
  let main_v0 : IVec S592x3584 32 := (extui 32 · natLt_8_32) main_arg2
  let main_c : IVec S_ 32 := constantI S_ 32 1#32
  let main_v1 : IVec S592x3584 32 := broadcastInDim S592x3584 ![] bcast_S_S592x3584 main_c
  let main_v2 : IVec S592x3584 1 := cmpi .sge main_v0 main_v1
  let main_c_0 : IVec S_ 32 := constantI S_ 32 254#32
  let main_v3 : IVec S592x3584 32 := broadcastInDim S592x3584 ![] bcast_S_S592x3584 main_c_0
  let main_v4 : IVec S592x3584 1 := cmpi .sle main_v0 main_v3
  let main_v5 : IVec S592x3584 1 := andi main_v2 main_v4
  main_v5
-- ==== Kernel.lean ====
abbrev S1024x1x18944 : Shape := ⟨3, ![1024, 1, 18944]⟩
abbrev S9472x3584 : Shape := ⟨2, ![9472, 3584]⟩
abbrev S592x3584 : Shape := ⟨2, ![592, 3584]⟩
abbrev S1024x18944 : Shape := ⟨2, ![1024, 18944]⟩
abbrev S1024x3584 : Shape := ⟨2, ![1024, 3584]⟩
abbrev S1024x512 : Shape := ⟨2, ![1024, 512]⟩
abbrev S256x512 : Shape := ⟨2, ![256, 512]⟩
abbrev S16x512 : Shape := ⟨2, ![16, 512]⟩
abbrev S256x1x512 : Shape := ⟨3, ![256, 1, 512]⟩
abbrev S256x2x512 : Shape := ⟨3, ![256, 2, 512]⟩
abbrev S512x512 : Shape := ⟨2, ![512, 512]⟩
abbrev S128x512 : Shape := ⟨2, ![128, 512]⟩
abbrev S1x512 : Shape := ⟨2, ![1, 512]⟩
abbrev S32x512 : Shape := ⟨2, ![32, 512]⟩

abbrev nBuf : Space → Nat
  | .hbm => 5
  | .vmem => 9
  | .smem => 0
  | _ => 0

abbrev bufTy : (tb : Table) → Fin (tcTables nBuf tb) → BufTy
  | .hbm, ⟨0, _⟩ => ⟨S1024x1x18944, .bf16⟩
  | .hbm, ⟨1, _⟩ => ⟨S9472x3584, .i8⟩
  | .hbm, ⟨2, _⟩ => ⟨S592x3584, .i8⟩
  | .hbm, ⟨3, _⟩ => ⟨S1024x18944, .bf16⟩
  | .hbm, ⟨4, _⟩ => ⟨S1024x3584, .bf16⟩
  | .local _ .vmem, ⟨0, _⟩ => ⟨S1024x512, .bf16⟩
  | .local _ .vmem, ⟨1, _⟩ => ⟨S1024x512, .bf16⟩
  | .local _ .vmem, ⟨2, _⟩ => ⟨S256x512, .i8⟩
  | .local _ .vmem, ⟨3, _⟩ => ⟨S256x512, .i8⟩
  | .local _ .vmem, ⟨4, _⟩ => ⟨S16x512, .i8⟩
  | .local _ .vmem, ⟨5, _⟩ => ⟨S16x512, .i8⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S1024x1x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![7, 37], ![false, false]⟩

def k0_cond3 (i : grid0.Coords) : BitVec 1 :=
  let arg1 : BitVec 32 := BitVec.ofNat 32 (i 1).val
  let c36_i32 : BitVec 32 := 36#32
  let v103 : BitVec 1 := Scalar.cmpi .eq arg1 c36_i32
  let v104 : BitVec 32 := Scalar.extui v103
  let c0_i32_9 : BitVec 32 := 0#32
  let v105 : BitVec 1 := Scalar.cmpi .ne v104 c0_i32_9
  v105

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S1024x1x18944 : Shape := ⟨3, ![1024, 1, 18944]⟩
abbrev S9472x3584 : Shape := ⟨2, ![9472, 3584]⟩
abbrev S592x3584 : Shape := ⟨2, ![592, 3584]⟩
abbrev S_ : Shape := ⟨0, ![]⟩
abbrev S592x16x3584 : Shape := ⟨3, ![592, 16, 3584]⟩
abbrev S592x1x3584 : Shape := ⟨3, ![592, 1, 3584]⟩
abbrev S1024x9472x2 : Shape := ⟨3, ![1024, 9472, 2]⟩
abbrev S1024x9472x1 : Shape := ⟨3, ![1024, 9472, 1]⟩
abbrev S1024x9472 : Shape := ⟨2, ![1024, 9472]⟩
abbrev S1024x3584 : Shape := ⟨2, ![1024, 3584]⟩

abbrev nBuf : Space → Nat
  | .hbm => 136
  | .vmem => 0
  | .smem => 0
  | _ => 0

abbrev hbmTy0_0 (i : Nat) : BufTy := match i % 128 with
  | 0 => ⟨S1024x1x18944, .bf16⟩
  | 1 => ⟨S9472x3584, .i8⟩
  | 2 => ⟨S592x3584, .i8⟩
  | 3 => ⟨S9472x3584, .i32⟩
  | 4 => ⟨S_, .i32⟩
  | 5 => ⟨S9472x3584, .i32⟩
  | 6 => ⟨S9472x3584, .i32⟩
  | 7 => ⟨S_, .i32⟩
  | 8 => ⟨S9472x3584, .i32⟩
  | 9 => ⟨S9472x3584, .i32⟩
  | 10 => ⟨S592x3584, .i32⟩
  | 11 => ⟨S_, .i32⟩
  | 12 => ⟨S592x3584, .i32⟩
  | 13 => ⟨S592x3584, .i32⟩
  | 14 => ⟨S592x3584, .f32⟩
  | 15 => ⟨S_, .f32⟩
  | 16 => ⟨S592x3584, .f32⟩
  | 17 => ⟨S592x3584, .f32⟩
  | 18 => ⟨S592x3584, .bf16⟩
  | 19 => ⟨S_, .i32⟩
  | 20 => ⟨S9472x3584, .i32⟩
  | 21 => ⟨S9472x3584, .i32⟩
  | 22 => ⟨S_, .i32⟩
  | 23 => ⟨S9472x3584, .i32⟩
  | 24 => ⟨S9472x3584, .i1⟩
  | 25 => ⟨S_, .i32⟩
  | 26 => ⟨S9472x3584, .i32⟩
  | 27 => ⟨S9472x3584, .i32⟩
  | 28 => ⟨S_, .i32⟩
  | 29 => ⟨S9472x3584, .i32⟩
  | 30 => ⟨S9472x3584, .i1⟩
  | 31 => ⟨S_, .i32⟩
  | 32 => ⟨S9472x3584, .i32⟩
  | 33 => ⟨S9472x3584, .i32⟩
  | 34 => ⟨S_, .i32⟩
  | 35 => ⟨S9472x3584, .i32⟩
  | 36 => ⟨S9472x3584, .i1⟩
  | 37 => ⟨S_, .i32⟩
  | 38 => ⟨S9472x3584, .i32⟩
  | 39 => ⟨S9472x3584, .i32⟩
  | 40 => ⟨S_, .i32⟩
  | 41 => ⟨S9472x3584, .i32⟩
  | 42 => ⟨S9472x3584, .i1⟩
  | 43 => ⟨S_, .bf16⟩
  | 44 => ⟨S_, .bf16⟩
  | 45 => ⟨S9472x3584, .bf16⟩
  | 46 => ⟨S9472x3584, .bf16⟩
  | 47 => ⟨S9472x3584, .bf16⟩
  | 48 => ⟨S_, .bf16⟩
  | 49 => ⟨S_, .bf16⟩
  | 50 => ⟨S9472x3584, .bf16⟩
  | 51 => ⟨S9472x3584, .bf16⟩
  | 52 => ⟨S9472x3584, .bf16⟩
  | 53 => ⟨S9472x3584, .bf16⟩
  | 54 => ⟨S_, .bf16⟩
  | 55 => ⟨S_, .bf16⟩
  | 56 => ⟨S9472x3584, .bf16⟩
  | 57 => ⟨S9472x3584, .bf16⟩
  | 58 => ⟨S9472x3584, .bf16⟩
  | 59 => ⟨S_, .bf16⟩
  | 60 => ⟨S_, .bf16⟩
  | 61 => ⟨S9472x3584, .bf16⟩
  | 62 => ⟨S9472x3584, .bf16⟩
  | 63 => ⟨S9472x3584, .bf16⟩
  | 64 => ⟨S9472x3584, .bf16⟩
  | 65 => ⟨S9472x3584, .bf16⟩
  | 66 => ⟨S9472x3584, .bf16⟩
  | 67 => ⟨S9472x3584, .bf16⟩
  | 68 => ⟨S592x16x3584, .bf16⟩
  | 69 => ⟨S592x1x3584, .bf16⟩
  | 70 => ⟨S592x16x3584, .bf16⟩
  | 71 => ⟨S592x16x3584, .bf16⟩
  | 72 => ⟨S9472x3584, .bf16⟩
  | 73 => ⟨S_, .i32⟩
  | 74 => ⟨S9472x3584, .i32⟩
  | 75 => ⟨S9472x3584, .i32⟩
  | 76 => ⟨S_, .i32⟩
  | 77 => ⟨S9472x3584, .i32⟩
  | 78 => ⟨S9472x3584, .i1⟩
  | 79 => ⟨S_, .i32⟩
  | 80 => ⟨S9472x3584, .i32⟩
  | 81 => ⟨S9472x3584, .i32⟩
  | 82 => ⟨S_, .i32⟩
  | 83 => ⟨S9472x3584, .i32⟩
  | 84 => ⟨S9472x3584, .i1⟩
  | 85 => ⟨S_, .i32⟩
  | 86 => ⟨S9472x3584, .i32⟩
  | 87 => ⟨S9472x3584, .i32⟩
  | 88 => ⟨S_, .i32⟩
  | 89 => ⟨S9472x3584, .i32⟩
  | 90 => ⟨S9472x3584, .i1⟩
  | 91 => ⟨S_, .i32⟩
  | 92 => ⟨S9472x3584, .i32⟩
  | 93 => ⟨S9472x3584, .i32⟩
  | 94 => ⟨S_, .i32⟩
  | 95 => ⟨S9472x3584, .i32⟩
  | 96 => ⟨S9472x3584, .i1⟩
  | 97 => ⟨S_, .bf16⟩
  | 98 => ⟨S_, .bf16⟩
  | 99 => ⟨S9472x3584, .bf16⟩
  | 100 => ⟨S9472x3584, .bf16⟩
  | 101 => ⟨S9472x3584, .bf16⟩
  | 102 => ⟨S_, .bf16⟩
  | 103 => ⟨S_, .bf16⟩
  | 104 => ⟨S9472x3584, .bf16⟩
  | 105 => ⟨S9472x3584, .bf16⟩
  | 106 => ⟨S9472x3584, .bf16⟩
  | 107 => ⟨S9472x3584, .bf16⟩
  | 108 => ⟨S_, .bf16⟩
  | 109 => ⟨S_, .bf16⟩
  | 110 => ⟨S9472x3584, .bf16⟩
  | 111 => ⟨S9472x3584, .bf16⟩
  | 112 => ⟨S9472x3584, .bf16⟩
  | 113 => ⟨S_, .bf16⟩
  | 114 => ⟨S_, .bf16⟩
  | 115 => ⟨S9472x3584, .bf16⟩
  | 116 => ⟨S9472x3584, .bf16⟩
  | 117 => ⟨S9472x3584, .bf16⟩
  | 118 => ⟨S9472x3584, .bf16⟩
  | 119 => ⟨S9472x3584, .bf16⟩
  | 120 => ⟨S9472x3584, .bf16⟩
  | 121 => ⟨S9472x3584, .bf16⟩
  | 122 => ⟨S592x16x3584, .bf16⟩
  | 123 => ⟨S592x1x3584, .bf16⟩
  | 124 => ⟨S592x16x3584, .bf16⟩
  | 125 => ⟨S592x16x3584, .bf16⟩
  | 126 => ⟨S9472x3584, .bf16⟩
  | 127 => ⟨S1024x9472x2, .bf16⟩
  | _ => ⟨S1024x1x18944, .bf16⟩

abbrev hbmTy0_1 (i : Nat) : BufTy := match i % 128 with
  | 0 => ⟨S1024x9472x1, .bf16⟩
  | 1 => ⟨S1024x9472, .bf16⟩
  | 2 => ⟨S1024x9472x1, .bf16⟩
  | 3 => ⟨S1024x9472, .bf16⟩
  | 4 => ⟨S1024x3584, .f32⟩
  | 5 => ⟨S1024x3584, .f32⟩
  | 6 => ⟨S1024x3584, .f32⟩
  | 7 => ⟨S1024x3584, .bf16⟩
  | _ => ⟨S1024x1x18944, .bf16⟩

abbrev hbmTy (i : Nat) : BufTy := match i / 128 with
  | 0 => hbmTy0_0 i
  | 1 => hbmTy0_1 i
  | _ => ⟨S1024x1x18944, .bf16⟩

abbrev bufTy : (tb : Table) → Fin (tcTables nBuf tb) → BufTy
  | .hbm, ⟨i, _⟩ => hbmTy i
  | _, _ => ⟨S1024x1x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_c_9 : Ref sig .tc := ⟨.hbm, 40, rfl⟩
abbrev main_v26 : Ref sig .tc := ⟨.hbm, 41, rfl⟩
abbrev main_v27 : Ref sig .tc := ⟨.hbm, 42, rfl⟩
abbrev main_cst_10 : Ref sig .tc := ⟨.hbm, 43, rfl⟩
abbrev main_cst_11 : Ref sig .tc := ⟨.hbm, 44, rfl⟩
abbrev main_call0_v0 : Ref sig .tc := ⟨.hbm, 45, rfl⟩
abbrev main_call0_v1 : Ref sig .tc := ⟨.hbm, 46, rfl⟩
abbrev main_v28 : Ref sig .tc := ⟨.hbm, 47, rfl⟩
abbrev main_cst_12 : Ref sig .tc := ⟨.hbm, 48, rfl⟩
abbrev main_cst_13 : Ref sig .tc := ⟨.hbm, 49, rfl⟩
abbrev main_call1_v0 : Ref sig .tc := ⟨.hbm, 50, rfl⟩
abbrev main_call1_v1 : Ref sig .tc := ⟨.hbm, 51, rfl⟩
abbrev main_v29 : Ref sig .tc := ⟨.hbm, 52, rfl⟩
abbrev main_v30 : Ref sig .tc := ⟨.hbm, 53, rfl⟩
abbrev main_cst_14 : Ref sig .tc := ⟨.hbm, 54, rfl⟩
abbrev main_cst_15 : Ref sig .tc := ⟨.hbm, 55, rfl⟩
abbrev main_call3_v0 : Ref sig .tc := ⟨.hbm, 56, rfl⟩
abbrev main_call3_v1 : Ref sig .tc := ⟨.hbm, 57, rfl⟩
abbrev main_v31 : Ref sig .tc := ⟨.hbm, 58, rfl⟩
abbrev main_cst_16 : Ref sig .tc := ⟨.hbm, 59, rfl⟩
abbrev main_cst_17 : Ref sig .tc := ⟨.hbm, 60, rfl⟩
abbrev main_call4_v0 : Ref sig .tc := ⟨.hbm, 61, rfl⟩
abbrev main_call4_v1 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_18 : Ref sig .tc := ⟨.hbm, 73, rfl⟩
abbrev main_v42 : Ref sig .tc := ⟨.hbm, 74, rfl⟩
abbrev main_v43 : Ref sig .tc := ⟨.hbm, 75, rfl⟩
abbrev main_c_19 : Ref sig .tc := ⟨.hbm, 76, rfl⟩
abbrev main_v44 : Ref sig .tc := ⟨.hbm, 77, rfl⟩
abbrev main_v45 : Ref sig .tc := ⟨.hbm, 78, rfl⟩
abbrev main_c_20 : Ref sig .tc := ⟨.hbm, 79, rfl⟩
abbrev main_v46 : Ref sig .tc := ⟨.hbm, 80, rfl⟩
abbrev main_v47 : Ref sig .tc := ⟨.hbm, 81, rfl⟩
abbrev main_c_21 : Ref sig .tc := ⟨.hbm, 82, rfl⟩
abbrev main_v48 : Ref sig .tc := ⟨.hbm, 83, rfl⟩
abbrev main_v49 : Ref sig .tc := ⟨.hbm, 84, rfl⟩
abbrev main_c_22 : Ref sig .tc := ⟨.hbm, 85, rfl⟩
abbrev main_v50 : Ref sig .tc := ⟨.hbm, 86, rfl⟩
abbrev main_v51 : Ref sig .tc := ⟨.hbm, 87, rfl⟩
abbrev main_c_23 : Ref sig .tc := ⟨.hbm, 88, rfl⟩
abbrev main_v52 : Ref sig .tc := ⟨.hbm, 89, rfl⟩
abbrev main_v53 : Ref sig .tc := ⟨.hbm, 90, rfl⟩
abbrev main_c_24 : Ref sig .tc := ⟨.hbm, 91, rfl⟩
abbrev main_v54 : Ref sig .tc := ⟨.hbm, 92, rfl⟩
abbrev main_v55 : Ref sig .tc := ⟨.hbm, 93, rfl⟩
abbrev main_c_25 : Ref sig .tc := ⟨.hbm, 94, rfl⟩
abbrev main_v56 : Ref sig .tc := ⟨.hbm, 95, rfl⟩
abbrev main_v57 : Ref sig .tc := ⟨.hbm, 96, rfl⟩
abbrev main_cst_26 : Ref sig .tc := ⟨.hbm, 97, rfl⟩
abbrev main_cst_27 : Ref sig .tc := ⟨.hbm, 98, rfl⟩
abbrev main_call8_v0 : Ref sig .tc := ⟨.hbm, 99, rfl⟩
abbrev main_call8_v1 : Ref sig .tc := ⟨.hbm, 100, rfl⟩
abbrev main_v58 : Ref sig .tc := ⟨.hbm, 101, rfl⟩
abbrev main_cst_28 : Ref sig .tc := ⟨.hbm, 102, rfl⟩
abbrev main_cst_29 : Ref sig .tc := ⟨.hbm, 103, rfl⟩
abbrev main_call9_v0 : Ref sig .tc := ⟨.hbm, 104, rfl⟩
abbrev main_call9_v1 : Ref sig .tc := ⟨.hbm, 105, rfl⟩
abbrev main_v59 : Ref sig .tc := ⟨.hbm, 106, rfl⟩
abbrev main_v60 : Ref sig .tc := ⟨.hbm, 107, rfl⟩
abbrev main_cst_30 : Ref sig .tc := ⟨.hbm, 108, rfl⟩
abbrev main_cst_31 : Ref sig .tc := ⟨.hbm, 109, rfl⟩
abbrev main_call11_v0 : Ref sig .tc := ⟨.hbm, 110, rfl⟩
abbrev main_call11_v1 : Ref sig .tc := ⟨.hbm, 111, rfl⟩
abbrev main_v61 : Ref sig .tc := ⟨.hbm, 112, rfl⟩
abbrev main_cst_32 : Ref sig .tc := ⟨.hbm, 113, rfl⟩
abbrev main_cst_33 : Ref sig .tc := ⟨.hbm, 114, rfl⟩
abbrev main_call12_v0 : Ref sig .tc := ⟨.hbm, 115, rfl⟩
abbrev main_call12_v1 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== Proof.Scalars.lean ====
/- One weight and one scale of the MXFP4 layer, as extended reals: a four-bit E2M1 code read by the kernel through the
   e4m3fn format and by the reference through a tree of selects, and an eight-bit E8M0 code read by the kernel as the
   exponent field of a bf16 and by the reference as a power of two. -/
module

public import Idealize.ShloMosaic.PureOps.Ideal
public import Idealize.ShloMosaic.PureOps.Ideal.Laws
public import Idealize.ShloMosaic.Lib.IdealHost

@[expose] public section

noncomputable section

namespace Cert.Mx

open Idealize.ShloMosaic

/-- The magnitude of an E2M1 code with exponent bits `b2 b1` and mantissa bit `b0`. -/
def mag (b2 b1 b0 : Bool) : ℝ :=
  if b2 then (if b1 then (if b0 then 6 else 4) else (if b0 then 3 else 2))
  else (if b1 then (if b0 then 3 / 2 else 1) else (if b0 then 1 / 2 else 0))

/-- The value of a four-bit E2M1 code: its magnitude, negative where bit 3 is set. -/
def e2m1 (q : BitVec 4) : EReal :=
  ((if q.getLsbD 3 then -mag (q.getLsbD 2) (q.getLsbD 1) (q.getLsbD 0)
    else mag (q.getLsbD 2) (q.getLsbD 1) (q.getLsbD 0) : ℝ) : EReal)

/-- The value of an eight-bit E8M0 code: the power of two with exponent `e - 127`. -/
def e8m0 (e : BitVec 8) : EReal := (((2 : ℝ) ^ ((e.toNat : ℤ) - 127) : ℝ) : EReal)

/-! ## The constants -/

theorem bf16_six : Ideal.ofBits .bf16 0x40C0#16 = ((6 : ℝ) : EReal) := by
  simp [Ideal.ofBits, Ideal.ieee, -EReal.coe_mul]; norm_num
theorem bf16_four : Ideal.ofBits .bf16 0x4080#16 = ((4 : ℝ) : EReal) := by
  simp [Ideal.ofBits, Ideal.ieee, -EReal.coe_mul]; norm_num
theorem bf16_three : Ideal.ofBits .bf16 0x4040#16 = ((3 : ℝ) : EReal) := by
  simp [Ideal.ofBits, Ideal.ieee, -EReal.coe_mul]; norm_num
theorem bf16_two : Ideal.ofBits .bf16 0x4000#16 = ((2 : ℝ) : EReal) := by
  simp [Ideal.ofBits, Ideal.ieee, -EReal.coe_mul]; norm_num
theorem bf16_three_halves : Ideal.ofBits .bf16 0x3FC0#16 = ((3 / 2 : ℝ) : EReal) := by
  simp [Ideal.ofBits, Ideal.ieee, -EReal.coe_mul]; norm_num
theorem bf16_half : Ideal.ofBits .bf16 0x3F00#16 = ((1 / 2 : ℝ) : EReal) := by
  simp [Ideal.ofBits, Ideal.ieee, -EReal.coe_mul]; norm_num
theorem bf16_sixty_four : Ideal.ofBits .bf16 0x4280#16 = ((64 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num

/-! ## The kernel's reading of a code -/

/-- The e4m3fn pattern that carries a code's sign, exponent and mantissa bits, as a table over its four bits. -/
theorem e4m3_of_bits (b3 b2 b1 b0 : Bool) (p : BitVec 8)
    (hp : p = (BitVec.ofBool b3 ++ 0#2 ++ BitVec.ofBool b2 ++ BitVec.ofBool b1 ++ BitVec.ofBool b0 ++ 0#2 : BitVec 8)) :
    Ideal.ofBits .fp8e4m3 p * ((64 : ℝ) : EReal) = ((if b3 then -mag b2 b1 b0 else mag b2 b1 b0 : ℝ) : EReal) := by
  subst hp
  rcases b3 <;> rcases b2 <;> rcases b1 <;> rcases b0 <;>
    · simp [Ideal.ofBits, Ideal.e4m3fn, mag, -EReal.coe_mul]
      try (rw [← EReal.coe_mul]; norm_num)

/-- A code, sign-extended to a byte, shifted left by two and masked, is an e4m3fn pattern of a sixty-fourth of its value. -/
theorem e4m3_code (q : BitVec 4) :
    Ideal.ofBits .fp8e4m3 (((q.signExtend 8) <<< 2) &&& 0x9C#8) * ((64 : ℝ) : EReal) = e2m1 q := by
  refine e4m3_of_bits _ _ _ _ _ ?_
  revert q; decide

/-! ## The reference's reading of a code -/

/-- The reference's tree of selects over the four bits of a code. -/
theorem select_tree (q : BitVec 4) (c3 c2 c1 c0 : BitVec 1) (h3 : c3 = BitVec.ofBool (q.getLsbD 3))
    (h2 : c2 = BitVec.ofBool (q.getLsbD 2)) (h1 : c1 = BitVec.ofBool (q.getLsbD 1)) (h0 : c0 = BitVec.ofBool (q.getLsbD 0)) :
    Scalar.select c3
        (-(Scalar.select c2
          (Scalar.select c1 (Scalar.select c0 (Ideal.ofBits .bf16 0x40C0#16) (Ideal.ofBits .bf16 0x4080#16))
            (Scalar.select c0 (Ideal.ofBits .bf16 0x4040#16) (Ideal.ofBits .bf16 0x4000#16)))
          (Scalar.select c1 (Scalar.select c0 (Ideal.ofBits .bf16 0x3FC0#16) 1)
            (Scalar.select c0 (Ideal.ofBits .bf16 0x3F00#16) 0)) : EReal))
        (Scalar.select c2
          (Scalar.select c1 (Scalar.select c0 (Ideal.ofBits .bf16 0x40C0#16) (Ideal.ofBits .bf16 0x4080#16))
            (Scalar.select c0 (Ideal.ofBits .bf16 0x4040#16) (Ideal.ofBits .bf16 0x4000#16)))
          (Scalar.select c1 (Scalar.select c0 (Ideal.ofBits .bf16 0x3FC0#16) 1)
            (Scalar.select c0 (Ideal.ofBits .bf16 0x3F00#16) 0)) : EReal)
      = e2m1 q := by
  subst h3 h2 h1 h0
  unfold e2m1
  rw [bf16_six, bf16_four, bf16_three, bf16_two, bf16_three_halves, bf16_half]
  generalize q.getLsbD 3 = b3; generalize q.getLsbD 2 = b2; generalize q.getLsbD 1 = b1; generalize q.getLsbD 0 = b0
  rcases b3 <;> rcases b2 <;> rcases b1 <;> rcases b0 <;> simp [Scalar.select, mag]

/-- The low four bits of a byte. -/
abbrev lo (w : BitVec 8) : BitVec 4 := w.setWidth 4
/-- The high four bits of a byte. -/
abbrev hi (w : BitVec 8) : BitVec 4 := (w >>> 4).setWidth 4

/-! ## A scale -/

/-- The kernel's scale: an E8M0 code other than 0 and 255, placed in the exponent field of a bf16. -/
theorem bf16_scale (e : BitVec 8) (h1 : 1 ≤ e.toNat) (h2 : e.toNat ≤ 254) :
    Ideal.ofBits .bf16 ((e.setWidth 16) <<< 7) = e8m0 e := by
  have hn : ((e.setWidth 16 <<< 7).extractLsb' 15 1 == 1#1) = false := by revert e; decide +kernel
  have he : ((e.setWidth 16 <<< 7).extractLsb' 7 8) = e := by revert e; decide +kernel
  have hf : ((e.setWidth 16 <<< 7).extractLsb' 0 7) = 0#7 := by revert e; decide +kernel
  unfold e8m0
  show Ideal.ieee 8 7 (e.setWidth 16 <<< 7) = _
  simp only [Ideal.ieee, Nat.reduceAdd, hn, he, hf]
  rw [if_neg (by norm_num; omega), if_neg (by omega)]
  congr 1
  simp only [Bool.false_eq_true, if_false, BitVec.toNat_ofNat, Nat.reducePow, Nat.reduceMod, Nat.add_zero, one_mul]
  rw [show ((128 : ℕ) : ℝ) = (2 : ℝ) ^ (7 : ℤ) by norm_num, ← zpow_add₀ (by norm_num)]
  congr 1; norm_num

/-- The reference's scale: two to the power of the code less 127. -/
theorem pow_scale (e : BitVec 8) :
    Ideal.pow (Ideal.ofBits .f32 0x40000000#32) ((((e.setWidth 32 - 127#32).toInt : ℝ)) : EReal) = e8m0 e := by
  have h : (e.setWidth 32 - 127#32).toInt = (e.toNat : ℤ) - 127 := by revert e; decide +kernel
  rw [h, f32_two, Ideal.pow_coe_coe]
  unfold e8m0
  congr 1
  exact Real.rpow_intCast 2 _

end Cert.Mx

end
-- ==== Proof.Layer.lean ====
/- The layer's value: a row of `x` against a column of decoded weights, summed over the input features. -/
module

public import proofs.«01_k».proof.Proof.Scalars
public import Idealize.ShloMosaic.Lib.Pointwise

@[expose] public section

noncomputable section

namespace Cert.Mx

open Idealize.ShloMosaic

/-- The code in row `k` of the pair of rows that a byte packs: its low four bits in row 0, its high four in row 1. -/
def nib (w : BitVec 8) (k : ℕ) : BitVec 4 := if k = 0 then lo w else hi w

/-- The layer at one result element: over the input features `l`, the sum of `x` times the weight, which is the value of
    code `l % 2` of byte `l / 2` times the scale of the block `l / 32`. -/
def layer (x : FVec Ideal ⟨3, ![1024, 1, 18944]⟩ .bf16) (w : IVec ⟨2, ![9472, 3584]⟩ 8) (s : IVec ⟨2, ![592, 3584]⟩ 8) :
    FVec Ideal ⟨2, ![1024, 3584]⟩ .bf16 := fun i =>
  ∑ l : Fin 18944, x (ix3 (i 0) 0 l) *
    (e2m1 (nib (w (ix2 ⟨l.val / 2, by omega⟩ (i 1))) (l.val % 2)) * e8m0 (s (ix2 ⟨l.val / 32, by omega⟩ (i 1))))

end Cert.Mx

end
-- ==== Proof.Bytes.lean ====
/- The kernel's two reinterpretations of rows as words, read at an element: four byte rows shifted and masked as one
   32-bit row, and one 32-bit row of two equal halves read as two bf16 rows. -/
module

public import Idealize.ShloMosaic.Lib.BitcastPair
public import Idealize.ShloMosaic.Lib.Pointwise

@[expose] public section

set_option maxRecDepth 16384

namespace Cert.Mx

open Idealize.ShloMosaic

/-- A reinterpretation of a rank-2 array at another width, bit by bit: bit `q` of row `a` is bit `(a w + q) % v` of
    source row `(a w + q) / v`. -/
theorem bitcast_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) (b : Nat) (hb : b = (a.val * w + q) % v) :
    (bitcast ⟨2, ![r, n]⟩ w x h (ix2 a l)).getLsbD q = (x (ix2 p l)).getLsbD b := by
  subst hb
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The mask of the kernel's words is `0x9C` in each of the four bytes. -/
theorem mask_bit : ∀ k : Fin 4, ∀ i : Fin 8, (2627509404#32).getLsbD (8 * k.val + i.val) = (0x9C#8).getLsbD i.val := by
  decide

/-- Bytes read four rows to a word, the words shifted left by two and masked, and read as bytes again: every byte is
    shifted and masked by itself, since no bit that crosses into the next byte is kept. -/
theorem shift_mask {R r n : Nat} (x : (⟨2, ![R, n]⟩ : Shape).Idx → BitVec 8) (y : (⟨2, ![r, n]⟩ : Shape).Idx → BitVec 32)
    (h : (⟨2, ![R, n]⟩ : Shape).Bitcasts 8 ⟨2, ![r, n]⟩ 32) (h' : (⟨2, ![r, n]⟩ : Shape).Bitcasts 32 ⟨2, ![R, n]⟩ 8)
    (hR : R = 4 * r) (hy : ∀ j, y j = (bitcast ⟨2, ![r, n]⟩ 32 x h j <<< 2) &&& 2627509404#32) (a : Fin R) (l : Fin n) :
    bitcast ⟨2, ![R, n]⟩ 8 y h' (ix2 a l) = (x (ix2 a l) <<< 2) &&& 0x9C#8 := by
  apply BitVec.eq_of_getLsbD_eq
  intro i hi
  have ha := a.isLt
  have hb : (a.val * 8 + i) % 32 = 8 * (a.val % 4) + i := by omega
  rw [bitcast_bit y h' a l i hi (by decide) ⟨a.val / 4, by omega⟩ (by show a.val / 4 = _; omega) _ hb.symm,
    hy, BitVec.getLsbD_and, BitVec.getLsbD_and, mask_bit ⟨a.val % 4, by omega⟩ ⟨i, hi⟩]
  by_cases hm : (0x9C#8).getLsbD i = true
  · have h2 : 2 ≤ i := by
      by_contra hc
      have : i = 0 ∨ i = 1 := by omega
      rcases this with rfl | rfl <;> exact absurd hm (by decide)
    congr 1
    rw [BitVec.getLsbD_shiftLeft, BitVec.getLsbD_shiftLeft,
      bitcast_bit x h ⟨a.val / 4, by omega⟩ l _ (by omega) (by decide) a
        (by show a.val = (a.val / 4 * 32 + (8 * (a.val % 4) + i - 2)) / 8; omega) (i - 2)
        (by show i - 2 = (a.val / 4 * 32 + (8 * (a.val % 4) + i - 2)) % 8; omega)]
    simp only [show 8 * (a.val % 4) + i < 32 by omega, show ¬ (8 * (a.val % 4) + i < 2) by omega,
      show i < 8 from hi, show ¬ i < 2 by omega]
  · simp [Bool.eq_false_iff.mpr hm]

/-- One 32-bit row read as two 16-bit rows: either row of the pair is the low or the high half of the word. -/
theorem half_row {R r n : Nat} (y : (⟨2, ![r, n]⟩ : Shape).Idx → BitVec 32)
    (h : (⟨2, ![r, n]⟩ : Shape).Bitcasts 32 ⟨2, ![R, n]⟩ 16) (hR : R = 2 * r) (l : Fin n) (e : BitVec 8)
    (hy : ∀ p : Fin r, y (ix2 p l) = (e.setWidth 32 <<< 7) ||| (e.setWidth 32 <<< 23)) (a : Fin R) :
    bitcast ⟨2, ![R, n]⟩ 16 y h (ix2 a l) = (e.setWidth 16) <<< 7 := by
  apply BitVec.eq_of_getLsbD_eq
  intro i hi
  have ha := a.isLt
  have hb : (a.val * 16 + i) % 32 = 16 * (a.val % 2) + i := by omega
  rw [bitcast_bit y h a l i hi (by decide) ⟨a.val / 2, by omega⟩ (by show a.val / 2 = _; omega) _ hb.symm, hy]
  have key : ∀ e : BitVec 8, ∀ k : Fin 2, ∀ i : Fin 16,
      ((e.setWidth 32 <<< 7) ||| (e.setWidth 32 <<< 23)).getLsbD (16 * k.val + i.val) = ((e.setWidth 16) <<< 7).getLsbD i.val := by
    decide +kernel
  exact key e ⟨a.val % 2, by omega⟩ ⟨i, hi⟩

end Cert.Mx
-- ==== Proof.Block.lean ====
/- One grid point of the kernel: the weights it decodes from a block of packed codes and a block of scale codes, and the
   product of a block of `x` with them. -/
module

public import proofs.«01_k».proof.Proof.Gen.KernelIdeal.Skeleton
public import proofs.«01_k».proof.Proof.Layer
public import proofs.«01_k».proof.Proof.Bytes
public import Idealize.ShloMosaic.Lib.Pointwise
public import Idealize.ShloMosaic.Lib.Pipeline.Value

@[expose] public section

set_option maxRecDepth 16384

noncomputable section

namespace Cert.Mx

open Idealize.ShloMosaic Cert.KernelIdeal Cert.KernelIdeal.Gen

/-! ## The codes -/

/-- The kernel's spelling of the low code of a byte. -/
theorem code_lo : ∀ w : BitVec 8, ((w.setWidth 32 &&& 15#32).setWidth 4) = lo w := by decide +kernel
/-- The kernel's spelling of the high code of a byte. -/
theorem code_hi : ∀ w : BitVec 8, (((w.setWidth 32).sshiftRight' 4#32).setWidth 4) = hi w := by decide +kernel

/-- The decoded e4m3fn values, read as extended reals, before their factor of 64. -/
theorem pay3_apply (v : Vec Ideal S256x512 .i8) (r : Fin 512) (j : Fin 512) :
    k0_pay3 v (ix2 r j) = Ideal.ofBits .fp8e4m3
      ((((nib (v (ix2 ⟨r.val / 2, by omega⟩ j)) (r.val % 2)).signExtend 8) <<< 2) &&& 0x9C#8) := by
  unfold k0_pay3
  show Ideal.ofBits .fp8e4m3 (bitcast S512x512 8 _ _ (ix2 r j)) = _
  congr 1
  refine (shift_mask (R := 512) (r := 128) (n := 512) _ _ bitcasts_S512x512_w8_S128x512_w32 _ rfl (fun i => rfl) r j).trans ?_
  congr 2
  pointwise
  congr 1
  unfold nib
  by_cases h : r.val % 2 = 0
  · rw [dif_pos (by omega), if_pos h]; exact code_lo _
  · rw [dif_neg (by omega), if_neg h]; exact code_hi _

/-- The scale codes, each in the exponent field of both halves of a word. -/
theorem pay4_apply (v : Vec Ideal S16x512 .i8) (b : Fin 16) (j : Fin 512) :
    k0_pay4 v (ix2 b j) = ((v (ix2 b j)).setWidth 32 <<< 7) ||| ((v (ix2 b j)).setWidth 32 <<< 23) := by
  unfold k0_pay4
  pointwise
  rfl

/-- Row `b` of the scale words. -/
theorem slices_row : ∀ b : Fin 16, S16x512.Slices ![b.val, 0] S1x512 := by decide

/-- The scales of row `b` of the block of scale codes, one to each of the 32 rows they apply to. -/
def piece (v : Vec Ideal S16x512 .i8) (b : Fin 16) : FVec Ideal S32x512 .bf16 :=
  bitcastToFloat .bf16 (bitcast S32x512 16
    (broadcastTo S16x512 (shapeCast S1x512 (extractStridedSlice S1x512 ![b.val, 0] (k0_pay4 v) (slices_row b))
      shapeCasts_S1x512_S1x512) broadcasts_S1x512_S16x512) bitcasts_S16x512_w32_S32x512_w16)

theorem piece_apply (v : Vec Ideal S16x512 .i8) (b : Fin 16) (r : Fin 32) (j : Fin 512)
    (h1 : 1 ≤ (v (ix2 b j)).toNat) (h2 : (v (ix2 b j)).toNat ≤ 254) :
    piece v b (ix2 r j) = e8m0 (v (ix2 b j)) := by
  rw [← bf16_scale _ h1 h2]
  show Ideal.ofBits .bf16 (bitcast S32x512 16 _ _ (ix2 r j)) = _
  congr 1
  refine half_row (R := 32) (r := 16) (n := 512) _ _ rfl j _ (fun p => ?_) r
  rw [← pay4_apply]
  pointwise

/-- The scales of all the rows of a block. -/
def scales (v : Vec Ideal S16x512 .i8) : FVec Ideal S512x512 .bf16 :=
  concatenate S512x512 0 (List.ofFn fun b : Fin 16 => (⟨S32x512, piece v b⟩ : (s : Shape) × (s.Idx → Ideal .bf16)))
    concatenates_S32x512_S32x512_S32x512_S32x512_S32x512_S32x512_S32x512_S32x512_S32x512_S32x512_S32x512_S32x512_S32x512_S32x512_S32x512_S32x512_S512x512_d0

theorem scales_apply (v : Vec Ideal S16x512 .i8) (r : Fin 512) (j : Fin 512) :
    scales v (ix2 r j) = piece v ⟨r.val / 32, by omega⟩ (ix2 ⟨r.val % 32, by omega⟩ j) := by
  unfold scales
  refine concatenate_ofFn_apply (t := S512x512) (s₁ := S32x512) 0 (piece v) _ rfl 32 rfl (ix2 r j) ⟨r.val / 32, by omega⟩ rfl _ rfl fun b hb => ?_
  match b with
  | ⟨0, _⟩ => exact absurd rfl hb
  | ⟨1, _⟩ => rfl

/-- The block product as the product of the block of `x` with the decoded weights. -/
theorem pay11_eq (x : Vec Ideal S1024x512 .bf16) (w : Vec Ideal S256x512 .i8) (s : Vec Ideal S16x512 .i8) :
    k0_pay11 (k0_pay3 w) (k0_pay4 s) (k0_pay5 s) (k0_pay6 s) (k0_pay7 s) (k0_pay8 s) (k0_pay9 s) (k0_pay10 s) x
      = matmul (φ₁ := .bf16) dot_S1024x512_S512x512_S1024x512_1_0_0_1_n_n none (shapeCast (α := Ideal .bf16) S1024x512 x shapeCasts_S1024x512_S1024x512)
          (mulf (mulf (k0_pay3 w) (broadcast S512x512 (Scalar.ofBits (F := Ideal) .bf16 0x4280#16))) (scales s))
          (constant S1024x512 .f32 0x00000000#32) := by
  unfold k0_pay11 scales
  rfl

theorem pay11_apply (x : Vec Ideal S1024x512 .bf16) (w : Vec Ideal S256x512 .i8) (s : Vec Ideal S16x512 .i8)
    (hs : ∀ i, 1 ≤ (s i).toNat ∧ (s i).toNat ≤ 254) (i : Fin 1024) (j : Fin 512) :
    k0_pay11 (k0_pay3 w) (k0_pay4 s) (k0_pay5 s) (k0_pay6 s) (k0_pay7 s) (k0_pay8 s) (k0_pay9 s) (k0_pay10 s) x (ix2 i j)
      = ∑ r : Fin 512, x (ix2 i r) * (e2m1 (nib (w (ix2 ⟨r.val / 2, by omega⟩ j)) (r.val % 2)) * e8m0 (s (ix2 ⟨r.val / 32, by omega⟩ j))) := by
  rw [pay11_eq]
  pointwise
  refine Finset.sum_congr rfl fun r _ => ?_
  rw [pay3_apply, bf16_sixty_four, e4m3_code, scales_apply, piece_apply _ _ _ _ (hs _).1 (hs _).2]

end Cert.Mx

end
-- ==== Proof.KernelValue.lean ====
/- What the kernel's result array holds after its run: the layer's value. A run of 37 grid points accumulates the product
   of `x` with one tile of 512 output columns, a tile of 512 input features at a time. -/
module

public import proofs.«01_k».proof.Proof.Gen.KernelIdeal.Value
public import proofs.«01_k».proof.Proof.Block
public import Idealize.ShloMosaic.Lib.Pipeline.ValueKit
public import Idealize.ShloMosaic.Lib.Claim
public import Idealize.ShloMosaic.Lib.Pipeline.ReadBack

@[expose] public section

set_option maxRecDepth 16384

noncomputable section

namespace Cert.KernelIdeal.Value

open Cert.KernelIdeal Cert.KernelIdeal.Gen Cert.Mx Idealize.ShloMosaic Idealize.ShloMosaic.TcCoe Idealize.SL.Sem
open Idealize.ShloMosaic.Pipeline (Dat)

variable (m : (ℓ : Loc nD τ sig) → Buf (Elt Ideal) ℓ)

/-- The windows' block indices at a point: feature tile `t % 37`, column tile `t / 37`. -/
theorem idx : ∀ t : Fin cfg0.N, win0_0.index t = ![0, t.val % 37] ∧ win0_1.index t = ![t.val % 37, t.val / 37]
    ∧ win0_2.index t = ![t.val % 37, t.val / 37] ∧ win0_3.index t = ![0, t.val / 37] ∧ t.val / 37 < 7 :=
  (by decide +kernel : ∀ t : Fin grid0.N, _)

/-! ## The blocks a point reads -/

/-- The block of `x` at a point. -/
def xb (c : Dev nD) (t : Fin cfg0.N) : Vec Ideal S1024x512 .bf16 := iblk m c 0 t
/-- The block of packed codes at a point. -/
def wb (c : Dev nD) (t : Fin cfg0.N) : Vec Ideal S256x512 .i8 := iblk m c 1 t
/-- The block of scale codes at a point. -/
def sb (c : Dev nD) (t : Fin cfg0.N) : Vec Ideal S16x512 .i8 := iblk m c 2 t

theorem xb_apply (c : Dev nD) (t : Fin cfg0.N) (i : Fin 1024) (r : Fin 512) :
    xb m c t (ix2 i r) = m ((c : Thread nD τ).loc main_arg0) (ix3 i 0 ⟨t.val % 37 * 512 + r.val, by omega⟩) := by
  unfold xb
  blk_ext! [iblk, V, idx t]

theorem wb_apply (c : Dev nD) (t : Fin cfg0.N) (b : Fin 256) (j : Fin 512) :
    wb m c t (ix2 b j) = m ((c : Thread nD τ).loc main_arg1)
      (ix2 ⟨t.val % 37 * 256 + b.val, by omega⟩ ⟨t.val / 37 * 512 + j.val, by have := (idx t).2.2.2.2; omega⟩) := by
  unfold wb
  blk_ext! [iblk, V, idx t]

theorem sb_apply (c : Dev nD) (t : Fin cfg0.N) (b : Fin 16) (j : Fin 512) :
    sb m c t (ix2 b j) = m ((c : Thread nD τ).loc main_arg2)
      (ix2 ⟨t.val % 37 * 16 + b.val, by omega⟩ ⟨t.val / 37 * 512 + j.val, by have := (idx t).2.2.2.2; omega⟩) := by
  unfold sb
  blk_ext! [iblk, V, idx t]

/-- The product a point adds into the accumulator. -/
def part (c : Dev nD) (t : Fin cfg0.N) : FVec Ideal S1024x512 .f32 :=
  k0_pay11 (k0_pay3 (wb m c t)) (k0_pay4 (sb m c t)) (k0_pay5 (sb m c t)) (k0_pay6 (sb m c t)) (k0_pay7 (sb m c t))
    (k0_pay8 (sb m c t)) (k0_pay9 (sb m c t)) (k0_pay10 (sb m c t)) (xb m c t)

/-! ## The accumulator -/

/-- At the first point of a run the accumulator holds that point's product. -/
theorem acc_first (c : Dev nD) (t : Fin cfg0.N) (h : t.val % 37 = 0) (j : S1024x512.Idx) :
    (outsAt0 m c t.val t.isLt).2 j = part m c t j := by
  rw [outsAt0_A m c t h (by omega) (by omega)]
  frame_out
  show k0_pay12 (k0_pay3 (wb m c t)) (k0_pay4 (sb m c t)) (k0_pay5 (sb m c t)) (k0_pay6 (sb m c t)) (k0_pay7 (sb m c t))
    (k0_pay8 (sb m c t)) (k0_pay9 (sb m c t)) (k0_pay10 (sb m c t)) (xb m c t) j = _
  unfold k0_pay12 part
  pointwise

/-- The step of the accumulator at an element. -/
theorem add_part (c : Dev nD) (t : Fin cfg0.N) (acc : Vec Ideal S1024x512 .f32) (j : S1024x512.Idx) :
    k0_pay1 (part m c t) acc j = acc j + part m c t j := by
  unfold k0_pay1
  pointwise

/-- At every other point the product is added to what the point before left. -/
theorem acc_next (c : Dev nD) (t : Fin cfg0.N) (h : ¬t.val % 37 = 0) (j : S1024x512.Idx) :
    (outsAt0 m c t.val t.isLt).2 j
      = (outsAt0 m c (t.val - 1) (Nat.lt_of_le_of_lt (Nat.sub_le _ _) t.isLt)).2 j + part m c t j := by
  by_cases h2 : t.val % 37 = 36
  · rw [outsAt0_C m c t h (by omega) h2]
    frame_out
    simp only [read_unread_whole]
    exact add_part m c t _ j
  · rw [outsAt0_B m c t h (by omega) h2]
    frame_out
    simp only [read_unread_whole]
    exact add_part m c t _ j

/-- At the last point of a run the output block is the accumulator. -/
theorem out_last (c : Dev nD) (t : Fin cfg0.N) (h : t.val % 37 = 36) (j : S1024x512.Idx) :
    (outsAt0 m c t.val t.isLt).1 j = (outsAt0 m c t.val t.isLt).2 j := by
  rw [outsAt0_C m c t (by omega) (by omega) h]
  frame_out
  rfl

/-- After a run the accumulator holds the sum of its 37 products. -/
theorem acc_last (c : Dev nD) (t : Fin cfg0.N) (h : t.val % 37 = 36) (j : S1024x512.Idx) :
    (outsAt0 m c t.val t.isLt).2 j
      = ∑ k : Fin 37, part m c ⟨37 * (t.val / 37) + k.val, Pipeline.run_point_lt_of_flush t h k⟩ j := by
  rw [Pipeline.eq_sum_fin_of_reset_step_apply_of_flush (fun n h => (outsAt0 m c n h).2) 37 (fun _ => (0 : EReal))
    (fun t j => part m c t j) (fun t h j => (acc_first m c t h j).trans (zero_add _).symm) (fun t h j => acc_next m c t h j) t h j,
    zero_add]

/-! ## The result array -/

/-- One product at an element, over the argument arrays. -/
theorem part_apply (c : Dev nD) (hs : ∀ i, 1 ≤ (m ((c : Thread nD τ).loc main_arg2) i).toNat
      ∧ (m ((c : Thread nD τ).loc main_arg2) i).toNat ≤ 254) (t : Fin cfg0.N) (i : Fin 1024) (j : Fin 512) :
    part m c t (ix2 i j) = ∑ r : Fin 512, xb m c t (ix2 i r) *
      (e2m1 (nib (wb m c t (ix2 ⟨r.val / 2, by omega⟩ j)) (r.val % 2)) * e8m0 (sb m c t (ix2 ⟨r.val / 32, by omega⟩ j))) := by
  refine pay11_apply _ _ _ (fun q => ?_) i j
  idx_vars q
  rw [sb_apply]
  exact hs _

/-- The result array after the run is the layer's value. -/
theorem final (c : Dev nD) (hs : ∀ i, 1 ≤ (m ((c : Thread nD τ).loc main_arg2) i).toNat
      ∧ (m ((c : Thread nD τ).loc main_arg2) i).toNat ≤ 254) :
    (dats m 0 c).arrAt 3 (cfgs 0).N = layer (m ((c : Thread nD τ).loc main_arg0)) (m ((c : Thread nD τ).loc main_arg1))
      (m ((c : Thread nD τ).loc main_arg2)) := by
  refine (dats m 0 c).arrAt_eq_of_covers 3 _ (by decide +kernel) fun t hf y => ?_
  have ht := (flush0_3 t).mp hf
  blk_simp
  rw [after0_3, out_last m c t ht, acc_last m c t ht]
  obtain ⟨i, j, rfl⟩ : ∃ (i : Fin 1024) (j : Fin 512), y = ix2 i j := ⟨y 0, y 1, eq_ix2 y⟩
  obtain ⟨-, -, -, h3, hq⟩ := idx t
  have he : (win0_3.blk t).view.emb (ix2 i j) = ix2 i ⟨t.val / 37 * 512 + j.val, by omega⟩ := by blk_ext [h3]
  rw [he]
  refine (Fin.sum_fin_congr fun k => part_apply m c hs _ i j).trans ?_
  unfold layer
  refine Fin.sum_mul_add_congr fun k r hl => ?_
  rw [xb_apply, wb_apply, sb_apply]
  have hk := k.isLt
  have hr := r.isLt
  have e1 : (37 * (t.val / 37) + k.val) % 37 = k.val := by omega
  have e2 : (37 * (t.val / 37) + k.val) / 37 = t.val / 37 := by omega
  have e3 : (k.val * 512 + r.val) % 2 = r.val % 2 := by omega
  have e4 : (k.val * 512 + r.val) / 2 = k.val * 256 + r.val / 2 := by omega
  have e5 : (k.val * 512 + r.val) / 32 = k.val * 16 + r.val / 32 := by omega
  simp only [e1, e2, e3, e4, e5]
  rfl

end Cert.KernelIdeal.Value

end
-- ==== Proof.ReferenceValue.lean ====
/- What the reference computes: the layer's value, as the product of the even features with the low codes plus the
   product of the odd features with the high ones. -/
module

public import proofs.«01_k».proof.Proof.Gen.ReferenceIdeal.Run
public import proofs.«01_k».proof.Proof.Layer
public import Idealize.ShloMosaic.Lib.Pointwise
public import Idealize.ShloMosaic.Lib.Pipeline.ValueKit.Acc
public import Idealize.ShloMosaic.Lib.Tactic.CleanTypes

@[expose] public section

set_option maxRecDepth 16384

noncomputable section

namespace Cert.ReferenceIdeal.Value

open Cert.ReferenceIdeal Cert.ReferenceIdeal.Gen Cert.Mx Idealize.ShloMosaic Idealize.ShloMosaic.TcCoe Idealize.SL.Sem

variable (m : (ℓ : Loc nD τ sig) → Buf (Elt Ideal) ℓ)

/-- A sum over the features is the sum over the even ones plus the sum over the odd ones. -/
theorem sum_even_odd (f : Fin 18944 → EReal) :
    ∑ l, f l = (∑ b : Fin 9472, f ⟨b.val * 2, by omega⟩) + ∑ b : Fin 9472, f ⟨b.val * 2 + 1, by omega⟩ := by
  rw [← Finset.sum_add_distrib]
  refine ((Fin.sum_mul_add_congr (S := 9472) (n := 2) (F := fun b k => f ⟨b.val * 2 + k.val, by omega⟩)
    fun b k hl => rfl).symm.trans (Finset.sum_congr rfl fun b _ => ?_))
  rw [Fin.sum_univ_two]
  rfl

/-! ## The bits of a code, as the reference tests them -/

theorem lo_bits : ∀ w : BitVec 8,
    IntOp.cmpi .ne (IntOp.andi (IntOp.andi (w.setWidth 32) 15#32) 8#32) 0#32 = BitVec.ofBool ((lo w).getLsbD 3)
    ∧ IntOp.cmpi .ne (IntOp.andi (IntOp.andi (w.setWidth 32) 15#32) 4#32) 0#32 = BitVec.ofBool ((lo w).getLsbD 2)
    ∧ IntOp.cmpi .ne (IntOp.andi (IntOp.andi (w.setWidth 32) 15#32) 2#32) 0#32 = BitVec.ofBool ((lo w).getLsbD 1)
    ∧ IntOp.cmpi .ne (IntOp.andi (IntOp.andi (w.setWidth 32) 15#32) 1#32) 0#32 = BitVec.ofBool ((lo w).getLsbD 0) := by
  decide +kernel

theorem hi_bits : ∀ w : BitVec 8,
    IntOp.cmpi .ne (IntOp.andi (IntOp.shrsi .host (w.setWidth 32) 4#32) 8#32) 0#32 = BitVec.ofBool ((hi w).getLsbD 3)
    ∧ IntOp.cmpi .ne (IntOp.andi (IntOp.shrsi .host (w.setWidth 32) 4#32) 4#32) 0#32 = BitVec.ofBool ((hi w).getLsbD 2)
    ∧ IntOp.cmpi .ne (IntOp.andi (IntOp.shrsi .host (w.setWidth 32) 4#32) 2#32) 0#32 = BitVec.ofBool ((hi w).getLsbD 1)
    ∧ IntOp.cmpi .ne (IntOp.andi (IntOp.shrsi .host (w.setWidth 32) 4#32) 1#32) 0#32 = BitVec.ofBool ((hi w).getLsbD 0) := by
  decide +kernel

/-- The reference's scale is the value of the scale code. -/
theorem scale_eq (e : BitVec 8) : Ideal.pow (Ideal.ofBits .f32 0x40000000#32)
    (FloatOps.sitofp (F := Ideal) .f32 (IntOp.subi (e.setWidth 32) 127#32)) = e8m0 e := pow_scale e

/-- The reference's result is the layer's value. -/
theorem value (c : Dev nD) : res_main_v80 m c = layer (m ((c : Thread nD τ).loc main_arg0))
    (m ((c : Thread nD τ).loc main_arg1)) (m ((c : Thread nD τ).loc main_arg2)) := by
  funext i
  obtain ⟨i, j, rfl⟩ : ∃ (p : Fin 1024) (q : Fin 3584), i = ix2 p q := ⟨i 0, i 1, eq_ix2 i⟩
  unfold res_main_v80
  clean_types
  pointwise
  unfold layer
  rw [sum_even_odd]
  congr 1
  · refine Finset.sum_congr rfl fun b _ => ?_
    obtain ⟨h3, h2, h1, h0⟩ := lo_bits (m ((c : Thread nD τ).loc main_arg1) (ix2 b j))
    rw [select_tree _ _ _ _ _ h3 h2 h1 h0, scale_eq]
    have e1 : (b.val * 2) / 2 = b.val := by omega
    have e2 : (b.val * 2) % 2 = 0 := by omega
    have e3 : (b.val * 2) / 32 = b.val / 16 := by omega
    simp only [e1, e2, e3]
    rfl
  · refine Finset.sum_congr rfl fun b _ => ?_
    obtain ⟨h3, h2, h1, h0⟩ := hi_bits (m ((c : Thread nD τ).loc main_arg1) (ix2 b j))
    rw [select_tree _ _ _ _ _ h3 h2 h1 h0, scale_eq]
    have e1 : (b.val * 2 + 1) / 2 = b.val := by omega
    have e2 : (b.val * 2 + 1) % 2 = 1 := by omega
    have e3 : (b.val * 2 + 1) / 32 = b.val / 16 := by omega
    simp only [e1, e2, e3]
    rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.ReferenceValue
public import Idealize.ShloMosaic.Lib.Claim
public import Idealize.ShloMosaic.Lib.Pointwise
public import Idealize.ShloMosaic.Adequacy
public import Idealize.ShloMosaic.Init

@[expose] public section

noncomputable section

namespace Cert.Proof

open Idealize.ShloMosaic Idealize.ShloMosaic.TcCoe Idealize.SL.Sem

/-- The side conditions of the predicate on the scale codes. -/
theorem pre_facts : Cert.Pre_scales_normal.Facts := ⟨by decide, by decide⟩

/-- The predicate holds of one scale code exactly when it is neither 0 nor 255; this direction is the one used. -/
theorem code_bound : ∀ w : BitVec 8, IntOp.andi (IntOp.cmpi .sge (w.setWidth 32) 1#32)
    (IntOp.cmpi .sle (w.setWidth 32) 254#32) = 1#1 → 1 ≤ w.toNat ∧ w.toNat ≤ 254 := by
  decide +kernel

/-- Where the predicate holds of a memory's arguments, every scale code in it lies between 1 and 254. -/
theorem bounds (m : (ℓ : Loc Cert.KernelIdeal.nD Cert.KernelIdeal.τ Cert.KernelIdeal.sig) → Buf (Elt Ideal) ℓ)
    (h : Cert.Pre_KernelIdeal_scales_normal (hPre_scales_normal := pre_facts) m) (c : Dev Cert.KernelIdeal.nD)
    (i : Cert.KernelIdeal.S592x3584.Idx) :
    1 ≤ (m ((c.tc : Thread Cert.KernelIdeal.nD Cert.KernelIdeal.τ).loc Cert.KernelIdeal.main_arg2) i).toNat
      ∧ (m ((c.tc : Thread Cert.KernelIdeal.nD Cert.KernelIdeal.τ).loc Cert.KernelIdeal.main_arg2) i).toNat ≤ 254 :=
  code_bound _ (congrFun (h c) i)

/-- The reference runs, keeps its arguments, and leaves every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference both end with the layer's value in their result arrays. -/
theorem algebraic : Cert.algebraic_KernelIdeal_ReferenceIdeal_pre_scales_normal (hPre_scales_normal := pre_facts) := by
  intro m g m' g' hpre hagree
  refine ⟨fun c => (Cert.KernelIdeal.Gen.dats m 0 c).arrAt 3 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Value.value m' c, (hagree c).1, (hagree c).2.1, (hagree c).2.2]
  exact (Cert.KernelIdeal.Value.final m c (bounds m hpre c)).symm

theorem claim : Cert.Claim := ⟨Cert.Kernel.Gen.facts, Cert.KernelIdeal.Gen.facts, Cert.ReferenceIdeal.Gen.facts,
  pre_facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  algebraic⟩

end Cert.Proof

end
